-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1024x1536 : Shape := ⟨3, ![12, 1024, 1536]⟩
abbrev S_ : Shape := ⟨0, ![]⟩
abbrev S1536x8960 : Shape := ⟨2, ![1536, 8960]⟩
abbrev S8960 : Shape := ⟨1, ![8960]⟩
abbrev S1 : Shape := ⟨1, ![1]⟩
abbrev S2 : Shape := ⟨1, ![2]⟩
abbrev S1x8960 : Shape := ⟨2, ![1, 8960]⟩
abbrev S4x8960 : Shape := ⟨2, ![4, 8960]⟩
abbrev S12288x1536 : Shape := ⟨2, ![12288, 1536]⟩
abbrev S12288x8960 : Shape := ⟨2, ![12288, 8960]⟩
abbrev S512x1536 : Shape := ⟨2, ![512, 1536]⟩
abbrev S1536x1280 : Shape := ⟨2, ![1536, 1280]⟩
abbrev S4x1280 : Shape := ⟨2, ![4, 1280]⟩
abbrev S512x1280 : Shape := ⟨2, ![512, 1280]⟩
abbrev S512 : Shape := ⟨1, ![512]⟩
abbrev S512x1 : Shape := ⟨2, ![512, 1]⟩
abbrev S1536x256 : Shape := ⟨2, ![1536, 256]⟩
abbrev S512x768 : Shape := ⟨2, ![512, 768]⟩
abbrev S768x256 : Shape := ⟨2, ![768, 256]⟩
abbrev S512x256 : Shape := ⟨2, ![512, 256]⟩
abbrev S256 : Shape := ⟨1, ![256]⟩
abbrev S1x256 : Shape := ⟨2, ![1, 256]⟩
abbrev S12x1024x8960 : Shape := ⟨3, ![12, 1024, 8960]⟩

abbrev nBuf : Space → Nat
  | .hbm => 19
  | .vmem => 8
  | .smem => 1
  | _ => 0

abbrev bufTy : (tb : Table) → Fin (tcTables nBuf tb) → BufTy
  | .hbm, ⟨0, _⟩ => ⟨S12x1024x1536, .i8⟩
  | .hbm, ⟨1, _⟩ => ⟨S_, .i32⟩
  | .hbm, ⟨2, _⟩ => ⟨S1536x8960, .i8⟩
  | .hbm, ⟨3, _⟩ => ⟨S8960, .i32⟩
  | .hbm, ⟨4, _⟩ => ⟨S8960, .i32⟩
  | .hbm, ⟨5, _⟩ => ⟨S8960, .i32⟩
  | .hbm, ⟨6, _⟩ => ⟨S8960, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S2, .i32⟩
  | .hbm, ⟨11, _⟩ => ⟨S1x8960, .i32⟩
  | .hbm, ⟨12, _⟩ => ⟨S1x8960, .i32⟩
  | .hbm, ⟨13, _⟩ => ⟨S1x8960, .i32⟩
  | .hbm, ⟨14, _⟩ => ⟨S1x8960, .i32⟩
  | .hbm, ⟨15, _⟩ => ⟨S4x8960, .i32⟩
  | .hbm, ⟨16, _⟩ => ⟨S12288x1536, .i8⟩
  | .hbm, ⟨17, _⟩ => ⟨S12288x8960, .i8⟩
  | .hbm, ⟨18, _⟩ => ⟨S12x1024x8960, .i8⟩
  | .local _ .vmem, ⟨0, _⟩ => ⟨S512x1536, .i8⟩
  | .local _ .vmem, ⟨1, _⟩ => ⟨S512x1536, .i8⟩
  | .local _ .vmem, ⟨2, _⟩ => ⟨S1536x1280, .i8⟩
  | .local _ .vmem, ⟨3, _⟩ => ⟨S1536x1280, .i8⟩
  | .local _ .vmem, ⟨4, _⟩ => ⟨S4x1280, .i32⟩
  | .local _ .vmem, ⟨5, _⟩ => ⟨S4x1280, .i32⟩
  | .local _ .vmem, ⟨6, _⟩ => ⟨S512x1280, .i8⟩
  | .local _ .vmem, ⟨7, _⟩ => ⟨S512x1280, .i8⟩
  | .local _ .smem, ⟨0, _⟩ => ⟨S2, .i32⟩
  | _, _ => ⟨S12x1024x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![7, 24], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1536 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x1280 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1280 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1280 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S12x1024x1536 : Shape := ⟨3, ![12, 1024, 1536]⟩
abbrev S_ : Shape := ⟨0, ![]⟩
abbrev S1536x8960 : Shape := ⟨2, ![1536, 8960]⟩
abbrev S8960 : Shape := ⟨1, ![8960]⟩
abbrev S12x1024x1536x1 : Shape := ⟨4, ![12, 1024, 1536, 1]⟩
abbrev S1x1x1536x8960 : Shape := ⟨4, ![1, 1, 1536, 8960]⟩
abbrev S12x1024x1536x8960 : Shape := ⟨4, ![12, 1024, 1536, 8960]⟩
abbrev S12x1024x8960 : Shape := ⟨3, ![12, 1024, 8960]⟩
abbrev S12x1024 : Shape := ⟨2, ![12, 1024]⟩
abbrev S12x1024x1 : Shape := ⟨3, ![12, 1024, 1]⟩
abbrev S1x1x8960 : Shape := ⟨3, ![1, 1, 8960]⟩

abbrev nBuf : Space → Nat
  | .hbm => 168
  | .vmem => 0
  | .smem => 0
  | _ => 0

abbrev hbmTy0_0 (i : Nat) : BufTy := match i % 128 with
  | 0 => ⟨S12x1024x1536, .i8⟩
  | 1 => ⟨S_, .i32⟩
  | 2 => ⟨S1536x8960, .i8⟩
  | 3 => ⟨S8960, .i32⟩
  | 4 => ⟨S8960, .i32⟩
  | 5 => ⟨S8960, .i32⟩
  | 6 => ⟨S8960, .i32⟩
  | 7 => ⟨S_, .i32⟩
  | 8 => ⟨S12x1024x1536, .i32⟩
  | 9 => ⟨S_, .i32⟩
  | 10 => ⟨S12x1024x1536, .i32⟩
  | 11 => ⟨S12x1024x1536, .i32⟩
  | 12 => ⟨S12x1024x1536, .i8⟩
  | 13 => ⟨S1536x8960, .i32⟩
  | 14 => ⟨S_, .i32⟩
  | 15 => ⟨S1536x8960, .i32⟩
  | 16 => ⟨S1536x8960, .i32⟩
  | 17 => ⟨S1536x8960, .i8⟩
  | 18 => ⟨S12x1024x1536, .i32⟩
  | 19 => ⟨S12x1024x1536x1, .i32⟩
  | 20 => ⟨S1536x8960, .i32⟩
  | 21 => ⟨S1x1x1536x8960, .i32⟩
  | 22 => ⟨S12x1024x1536x8960, .i32⟩
  | 23 => ⟨S12x1024x1536x8960, .i32⟩
  | 24 => ⟨S12x1024x1536x8960, .i32⟩
  | 25 => ⟨S_, .i32⟩
  | 26 => ⟨S12x1024x8960, .i32⟩
  | 27 => ⟨S12x1024x1536, .i32⟩
  | 28 => ⟨S_, .i32⟩
  | 29 => ⟨S12x1024, .i32⟩
  | 30 => ⟨S1536x8960, .i32⟩
  | 31 => ⟨S_, .i32⟩
  | 32 => ⟨S8960, .i32⟩
  | 33 => ⟨S_, .i32⟩
  | 34 => ⟨S_, .i32⟩
  | 35 => ⟨S_, .i32⟩
  | 36 => ⟨S8960, .i32⟩
  | 37 => ⟨S8960, .i32⟩
  | 38 => ⟨S12x1024x1, .i32⟩
  | 39 => ⟨S1x1x8960, .i32⟩
  | 40 => ⟨S12x1024x8960, .i32⟩
  | 41 => ⟨S12x1024x8960, .i32⟩
  | 42 => ⟨S12x1024x8960, .i32⟩
  | 43 => ⟨S12x1024x8960, .i32⟩
  | 44 => ⟨S_, .i32⟩
  | 45 => ⟨S8960, .i32⟩
  | 46 => ⟨S8960, .i32⟩
  | 47 => ⟨S8960, .i32⟩
  | 48 => ⟨S8960, .i32⟩
  | 49 => ⟨S8960, .i32⟩
  | 50 => ⟨S8960, .i32⟩
  | 51 => ⟨S1x1x8960, .i32⟩
  | 52 => ⟨S12x1024x8960, .i32⟩
  | 53 => ⟨S12x1024x8960, .i32⟩
  | 54 => ⟨S12x1024x8960, .i32⟩
  | 55 => ⟨S8960, .i32⟩
  | 56 => ⟨S_, .i32⟩
  | 57 => ⟨S12x1024x8960, .i32⟩
  | 58 => ⟨S12x1024x8960, .i32⟩
  | 59 => ⟨S_, .i32⟩
  | 60 => ⟨S12x1024x8960, .i32⟩
  | 61 => ⟨S12x1024x8960, .i32⟩
  | 62 => ⟨S_, .i32⟩
  | 63 => ⟨S8960, .i32⟩
  | 64 => ⟨S8960, .i32⟩
  | 65 => ⟨S_, .i32⟩
  | 66 => ⟨S8960, .i32⟩
  | 67 => ⟨S8960, .i32⟩
  | 68 => ⟨S1x1x8960, .i32⟩
  | 69 => ⟨S12x1024x8960, .i32⟩
  | 70 => ⟨S12x1024x8960, .i32⟩
  | 71 => ⟨S1x1x8960, .i32⟩
  | 72 => ⟨S12x1024x8960, .i32⟩
  | 73 => ⟨S12x1024x8960, .i32⟩
  | 74 => ⟨S1x1x8960, .i32⟩
  | 75 => ⟨S12x1024x8960, .i32⟩
  | 76 => ⟨S12x1024x8960, .i32⟩
  | 77 => ⟨S1x1x8960, .i32⟩
  | 78 => ⟨S12x1024x8960, .i32⟩
  | 79 => ⟨S12x1024x8960, .i32⟩
  | 80 => ⟨S_, .i32⟩
  | 81 => ⟨S12x1024x8960, .i32⟩
  | 82 => ⟨S12x1024x8960, .i32⟩
  | 83 => ⟨S_, .i32⟩
  | 84 => ⟨S12x1024x8960, .i32⟩
  | 85 => ⟨S12x1024x8960, .i32⟩
  | 86 => ⟨S12x1024x8960, .i32⟩
  | 87 => ⟨S_, .i32⟩
  | 88 => ⟨S12x1024x8960, .i32⟩
  | 89 => ⟨S12x1024x8960, .i32⟩
  | 90 => ⟨S12x1024x8960, .i32⟩
  | 91 => ⟨S_, .i32⟩
  | 92 => ⟨S12x1024x8960, .i32⟩
  | 93 => ⟨S12x1024x8960, .i32⟩
  | 94 => ⟨S_, .i32⟩
  | 95 => ⟨S12x1024x8960, .i32⟩
  | 96 => ⟨S12x1024x8960, .i32⟩
  | 97 => ⟨S12x1024x8960, .i32⟩
  | 98 => ⟨S_, .i32⟩
  | 99 => ⟨S12x1024x8960, .i32⟩
  | 100 => ⟨S12x1024x8960, .i32⟩
  | 101 => ⟨S12x1024x8960, .i32⟩
  | 102 => ⟨S_, .i32⟩
  | 103 => ⟨S12x1024x8960, .i32⟩
  | 104 => ⟨S12x1024x8960, .i32⟩
  | 105 => ⟨S12x1024x8960, .i32⟩
  | 106 => ⟨S_, .i32⟩
  | 107 => ⟨S12x1024x8960, .i32⟩
  | 108 => ⟨S12x1024x8960, .i32⟩
  | 109 => ⟨S12x1024x8960, .i32⟩
  | 110 => ⟨S_, .i32⟩
  | 111 => ⟨S12x1024x8960, .i32⟩
  | 112 => ⟨S12x1024x8960, .i1⟩
  | 113 => ⟨S_, .i32⟩
  | 114 => ⟨S12x1024x8960, .i32⟩
  | 115 => ⟨S12x1024x8960, .i32⟩
  | 116 => ⟨S12x1024x8960, .i32⟩
  | 117 => ⟨S12x1024x8960, .i32⟩
  | 118 => ⟨S_, .i32⟩
  | 119 => ⟨S12x1024x8960, .i32⟩
  | 120 => ⟨S12x1024x8960, .i32⟩
  | 121 => ⟨S12x1024x8960, .i1⟩
  | 122 => ⟨S12x1024x8960, .i32⟩
  | 123 => ⟨S12x1024x8960, .i32⟩
  | 124 => ⟨S_, .i32⟩
  | 125 => ⟨S12x1024x8960, .i32⟩
  | 126 => ⟨S12x1024x8960, .i32⟩
  | 127 => ⟨S_, .i32⟩
  | _ => ⟨S12x1024x1536, .i8⟩

abbrev hbmTy0_1 (i : Nat) : BufTy := match i % 128 with
  | 0 => ⟨S12x1024x8960, .i32⟩
  | 1 => ⟨S12x1024x8960, .i32⟩
  | 2 => ⟨S12x1024x8960, .i32⟩
  | 3 => ⟨S12x1024x8960, .i32⟩
  | 4 => ⟨S_, .i32⟩
  | 5 => ⟨S8960, .i32⟩
  | 6 => ⟨S8960, .i32⟩
  | 7 => ⟨S_, .i32⟩
  | 8 => ⟨S8960, .i32⟩
  | 9 => ⟨S8960, .i32⟩
  | 10 => ⟨S1x1x8960, .i32⟩
  | 11 => ⟨S12x1024x8960, .i32⟩
  | 12 => ⟨S12x1024x8960, .i32⟩
  | 13 => ⟨S_, .i32⟩
  | 14 => ⟨S8960, .i32⟩
  | 15 => ⟨S8960, .i32⟩
  | 16 => ⟨S_, .i32⟩
  | 17 => ⟨S12x1024x8960, .i32⟩
  | 18 => ⟨S12x1024x8960, .i1⟩
  | 19 => ⟨S12x1024x8960, .i32⟩
  | 20 => ⟨S1x1x8960, .i32⟩
  | 21 => ⟨S12x1024x8960, .i32⟩
  | 22 => ⟨S12x1024x8960, .i32⟩
  | 23 => ⟨S1x1x8960, .i32⟩
  | 24 => ⟨S12x1024x8960, .i32⟩
  | 25 => ⟨S12x1024x8960, .i32⟩
  | 26 => ⟨S12x1024x8960, .i1⟩
  | 27 => ⟨S12x1024x8960, .i32⟩
  | 28 => ⟨S12x1024x8960, .i32⟩
  | 29 => ⟨S12x1024x8960, .i32⟩
  | 30 => ⟨S12x1024x8960, .i32⟩
  | 31 => ⟨S_, .i32⟩
  | 32 => ⟨S_, .i32⟩
  | 33 => ⟨S_, .i32⟩
  | 34 => ⟨S12x1024x8960, .i32⟩
  | 35 => ⟨S12x1024x8960, .i32⟩
  | 36 => ⟨S_, .i32⟩
  | 37 => ⟨S12x1024x8960, .i32⟩
  | 38 => ⟨S12x1024x8960, .i32⟩
  | 39 => ⟨S12x1024x8960, .i8⟩
  | _ => ⟨S12x1024x1536, .i8⟩

abbrev hbmTy (i : Nat) : BufTy := match i / 128 with
  | 0 => hbmTy0_0 i
  | 1 => hbmTy0_1 i
  | _ => ⟨S12x1024x1536, .i8⟩

abbrev bufTy : (tb : Table) → Fin (tcTables nBuf tb) → BufTy
  | .hbm, ⟨i, _⟩ => hbmTy i
  | _, _ => ⟨S12x1024x1536, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_11 : Ref sig .tc := ⟨.hbm, 80, rfl⟩
abbrev main_v60 : Ref sig .tc := ⟨.hbm, 81, rfl⟩
abbrev main_v61 : Ref sig .tc := ⟨.hbm, 82, rfl⟩
abbrev main_c_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_14 : Ref sig .tc := ⟨.hbm, 91, rfl⟩
abbrev main_v68 : Ref sig .tc := ⟨.hbm, 92, rfl⟩
abbrev main_v69 : Ref sig .tc := ⟨.hbm, 93, rfl⟩
abbrev main_c_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_17 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_18 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_19 : Ref sig .tc := ⟨.hbm, 110, rfl⟩
abbrev main_v82 : Ref sig .tc := ⟨.hbm, 111, rfl⟩
abbrev main_v83 : Ref sig .tc := ⟨.hbm, 112, rfl⟩
abbrev main_c_20 : Ref sig .tc := ⟨.hbm, 113, rfl⟩
abbrev main_call0_v0 : Ref sig .tc := ⟨.hbm, 114, rfl⟩
abbrev main_call0_v1 : Ref sig .tc := ⟨.hbm, 115, rfl⟩
abbrev main_v84 : Ref sig .tc := ⟨.hbm, 116, rfl⟩
abbrev main_v85 : Ref sig .tc := ⟨.hbm, 117, rfl⟩
abbrev main_c_21 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_22 : Ref sig .tc := ⟨.hbm, 124, rfl⟩
abbrev main_v91 : Ref sig .tc := ⟨.hbm, 125, rfl⟩
abbrev main_v92 : Ref sig .tc := ⟨.hbm, 126, rfl⟩
abbrev main_c_23 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_24 : Ref sig .tc := ⟨.hbm, 132, rfl⟩
abbrev main_v97 : Ref sig .tc := ⟨.hbm, 133, rfl⟩
abbrev main_v98 : Ref sig .tc := ⟨.hbm, 134, rfl⟩
abbrev main_c_25 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_26 : Ref sig .tc := ⟨.hbm, 141, rfl⟩
abbrev main_v104 : Ref sig .tc := ⟨.hbm, 142, rfl⟩
abbrev main_v105 : Ref sig .tc := ⟨.hbm, 143, rfl⟩
abbrev main_c_27 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c_28 : Ref sig .tc := ⟨.hbm, 159, rfl⟩
abbrev main_c_29 : Ref sig .tc := ⟨.hbm, 160, rfl⟩
abbrev main_call1_v0 : Ref sig .tc := ⟨.hbm, 161, rfl⟩
abbrev main_call1_v1 : Ref sig .tc := ⟨.hbm, 162, rfl⟩
abbrev main_call1_v2 : Ref sig .tc := ⟨.hbm, 163, rfl⟩
abbrev main_call1_v3 : Ref sig .tc := ⟨.hbm, 164, rfl⟩
abbrev main_call1_v4 : Ref sig .tc := ⟨.hbm, 165, rfl⟩
abbrev main_v120 : Ref sig .tc := ⟨.hbm, 166, rfl⟩
abbrev main_v121 : Ref sig .tc := ⟨.hbm, 167, rfl⟩

abbrev nD : Nat := 1
abbrev τ : Topo := Topo.v7x

variable {F : FTy → Type} [FloatOps F]
-- ==== Proof.Pieces.lean ====
/- What one grid point leaves in the output block, as five pieces of 256 columns.

   The body treats its 1280 columns in five chunks of 256, each by the same computation (printed five times, cut into
   statements at different places).  `chunk` is that computation as a function of what a chunk loads; the block a point
   leaves is five of it side by side. -/
module

public import proofs.«01_k».proof.Proof.Gen.KernelIdeal.Frame
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable {F : FTy → Type} [FloatOps F]

/-- One chunk: `x` the rows' bytes, `w` the chunk's weight bytes, `wz`, `bs`, `mu`, `e` its columns' weight zero points,
    biases, multipliers and shifts, `zx` and `zo` the input's and the output's zero points. -/
def chunk (x : Vec F S512x1536 .i8) (w : Vec F S1536x256 .i8) (wz bs mu e : Vec F S1x256 .i32) (zx zo : Elt F .i32) :
    IVec S512x256 8 :=
  k0_pay20 zo (k0_pay9 mu) (k0_pay10 e)
    (k0_pay11 (k0_pay3 x) (Scalar.subi 128#32 zx) (k0_pay5 x w) (k0_pay6 w) (k0_pay7 wz) (k0_pay8 bs))
    (k0_pay18 (k0_pay3 x) (Scalar.subi 128#32 zx) (k0_pay5 x w) (k0_pay6 w) (k0_pay7 wz) (k0_pay8 bs) mu)
    (k0_pay19 (k0_pay3 x) (Scalar.subi 128#32 zx) (k0_pay5 x w) (k0_pay6 w) (k0_pay7 wz) (k0_pay8 bs) mu)

/-- The chunk whose columns start at `o`, of the whole blocks. -/
def chunkAt (x0 : Vec F S2 .i32) (x1 : Vec F S512x1536 .i8) (x2 : Vec F S1536x1280 .i8) (x3 : Vec F S4x1280 .i32)
    (o : Nat) (hw : ∀ a, (![0, o] : Fin 2 → Nat) a + S1536x256.size a ≤ S1536x1280.size a)
    (h0 : ∀ a, (![0, o] : Fin 2 → Nat) a + S1x256.size a ≤ S4x1280.size a)
    (h1 : ∀ a, (![1, o] : Fin 2 → Nat) a + S1x256.size a ≤ S4x1280.size a)
    (h2 : ∀ a, (![2, o] : Fin 2 → Nat) a + S1x256.size a ≤ S4x1280.size a)
    (h3 : ∀ a, (![3, o] : Fin 2 → Nat) a + S1x256.size a ≤ S4x1280.size a) : IVec S512x256 8 :=
  chunk (View.ld x1 (Rect.unit (s := S512x1536) ![0, 0] S512x1536.size inb_S512x1536_S512x1536_0_0))
    (View.ld x2 (Rect.unit (s := S1536x1280) ![0, o] S1536x256.size hw))
    (View.ld x3 (Rect.unit (s := S4x1280) ![0, o] S1x256.size h0))
    (View.ld x3 (Rect.unit (s := S4x1280) ![1, o] S1x256.size h1))
    (View.ld x3 (Rect.unit (s := S4x1280) ![2, o] S1x256.size h2))
    (View.ld x3 (Rect.unit (s := S4x1280) ![3, o] S1x256.size h3))
    (View.ld x0 (Rect.unit (s := S2) ![0] S1.size inb_S2_S1_0) (Shape.Idx.first numel1_S1.ge))
    (View.ld x0 (Rect.unit (s := S2) ![1] S1.size inb_S2_S1_1) (Shape.Idx.first numel1_S1.ge))

/-- The block a point leaves: the five chunks. -/
theorem out_pieces (c : Dev nD) (i : grid0.Coords) (arg2 : Memref sig .tc .smem S2 .i32) (harg2 : arg2.IsWhole) (arg3 : Memref sig .tc .vmem S512x1536 .i8) (harg3 : arg3.IsWhole) (arg4 : Memref sig .tc .vmem S1536x1280 .i8) (harg4 : arg4.IsWhole) (arg5 : Memref sig .tc .vmem S4x1280 .i32) (harg5 : arg5.IsWhole) (arg6 : Memref sig .tc .vmem S512x1280 .i8) (harg6 : arg6.IsWhole)
    (x0 : Vec F S2 .i32) (x1 : Vec F S512x1536 .i8) (x2 : Vec F S1536x1280 .i8) (x3 : Vec F S4x1280 .i32) :
    out0_A_4 c i arg2 harg2 arg3 harg3 arg4 harg4 arg5 harg5 arg6 harg6 x0 x1 x2 x3
      = View.canon (Val := Elt F) (s := S512x1280) (e := .i8)
        [⟨Rect.unit (s := S512x1280) ![0, 1024] S512x256.size inb_S512x1280_S512x256_0_1024,
            chunkAt x0 x1 x2 x3 1024 inb_S1536x1280_S1536x256_0_1024 inb_S4x1280_S1x256_0_1024 inb_S4x1280_S1x256_1_1024
              inb_S4x1280_S1x256_2_1024 inb_S4x1280_S1x256_3_1024⟩,
          ⟨Rect.unit (s := S512x1280) ![0, 768] S512x256.size inb_S512x1280_S512x256_0_768,
            chunkAt x0 x1 x2 x3 768 inb_S1536x1280_S1536x256_0_768 inb_S4x1280_S1x256_0_768 inb_S4x1280_S1x256_1_768
              inb_S4x1280_S1x256_2_768 inb_S4x1280_S1x256_3_768⟩,
          ⟨Rect.unit (s := S512x1280) ![0, 512] S512x256.size inb_S512x1280_S512x256_0_512,
            chunkAt x0 x1 x2 x3 512 inb_S1536x1280_S1536x256_0_512 inb_S4x1280_S1x256_0_512 inb_S4x1280_S1x256_1_512
              inb_S4x1280_S1x256_2_512 inb_S4x1280_S1x256_3_512⟩,
          ⟨Rect.unit (s := S512x1280) ![0, 256] S512x256.size inb_S512x1280_S512x256_0_256,
            chunkAt x0 x1 x2 x3 256 inb_S1536x1280_S1536x256_0_256 inb_S4x1280_S1x256_0_256 inb_S4x1280_S1x256_1_256
              inb_S4x1280_S1x256_2_256 inb_S4x1280_S1x256_3_256⟩,
          ⟨Rect.unit (s := S512x1280) ![0, 0] S512x256.size inb_S512x1280_S512x256_0_0,
            chunkAt x0 x1 x2 x3 0 inb_S1536x1280_S1536x256_0_0 inb_S4x1280_S1x256_0_0 inb_S4x1280_S1x256_1_0
              inb_S4x1280_S1x256_2_0 inb_S4x1280_S1x256_3_0⟩] := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  simp only [View.readAt_eq_ld, harg2.read_unread, harg3.read_unread, harg4.read_unread, harg5.read_unread]
  unfold chunkAt
  rfl

end Cert.KernelIdeal.Hand

end
-- ==== Proof.Words.lean ====
/- Arithmetic on single 32-bit words, free of any array.

   The fixed-point multiply `srdhm` of the kernel adds the rounding constant 2^14 to the middle partial product before it
   splits it; the reference assembles the low word of the 64-bit product first, adds 2^30 to that and carries into the high
   word.  `srdhm_eq` says the two give the same word at every pair of words.  The rounding shift and the saturation that
   follow are one computation on both sides. -/
module

public import Idealize.ShloMosaic.PureOps.Vector
public import Mathlib.Data.BitVec
public import Mathlib.Tactic.Ring
public import Mathlib.Tactic.Abel

@[expose] public section

namespace Cert.Words

open Idealize.ShloMosaic

/-- Shifts of 32-bit words agree on every unit, whatever the amount. -/
theorem shli_unit (u v : ArithUnit) (x y : BitVec 32) : IntOp.shli u x y = IntOp.shli v x y := by
  simp [IntOp.shli, IntOp.cornerWord]
theorem shrui_unit (u v : ArithUnit) (x y : BitVec 32) : IntOp.shrui u x y = IntOp.shrui v x y := by
  simp [IntOp.shrui, IntOp.cornerWord]
theorem shrsi_unit (u v : ArithUnit) (x y : BitVec 32) : IntOp.shrsi u x y = IntOp.shrsi v x y := by
  simp [IntOp.shrsi, IntOp.cornerWord]

/-- The accumulator from the product of the centred operands, their row and column sums, the two zero points and the bias. -/
def accW (raw row col a b bias : BitVec 32) : BitVec 32 :=
  (raw + b * row) + ((a * (col + 1536#32 * b)) + bias)

/-- The middle partial product of `x * y`, the halves being multiplied as unsigned 16-bit numbers. -/
def midW (x y : BitVec 32) : BitVec 32 :=
  ((((x &&& 65535#32) * (y &&& 65535#32)) >>> 16) + (((x &&& 65535#32) * (y >>> 16)) &&& 65535#32))
    + (((x >>> 16) * (y &&& 65535#32)) &&& 65535#32)

/-- The high partial products of `x * y`, without the middle one's carry. -/
def highW (x y : BitVec 32) : BitVec 32 :=
  ((x >>> 16) * (y >>> 16) + (((x &&& 65535#32) * (y >>> 16)) >>> 16)) + (((x >>> 16) * (y &&& 65535#32)) >>> 16)

/-- What is taken from the high word because `x` is read as a signed number. -/
def signW (x y : BitVec 32) : BitVec 32 := if x.slt 0#32 then y else 0#32

theorem select_sign (x y : BitVec 32) : Scalar.select (IntOp.cmpi .slt x 0#32) y 0#32 = signW x y := by
  unfold signW Scalar.select IntOp.cmpi
  cases x.slt 0#32 <;> rfl

/-- The kernel's doubling high multiply: the rounding constant is added to the middle partial product. -/
def srdhmK (x y : BitVec 32) : BitVec 32 :=
  (((highW x y + ((midW x y + 16384#32) >>> 16)) - signW x y) <<< 1) ||| (((midW x y + 16384#32) >>> 15) &&& 1#32)

/-- The low word of the product, as the reference assembles it. -/
def lowW (x y : BitVec 32) : BitVec 32 := (midW x y <<< 16) ||| (((x &&& 65535#32) * (y &&& 65535#32)) &&& 65535#32)

/-- The reference's doubling high multiply: the rounding constant is added to the low word, and carried. -/
def srdhmR (x y : BitVec 32) : BitVec 32 :=
  ((((highW x y + (midW x y >>> 16)) - signW x y)
      + BitVec.setWidth 32 (BitVec.ofBool ((lowW x y + 1073741824#32).ult (lowW x y)))) <<< 1)
    ||| ((lowW x y + 1073741824#32) >>> 31)

theorem toNat_and16 (x : BitVec 32) : (x &&& 65535#32).toNat = x.toNat % 65536 := by
  rw [BitVec.toNat_and]; exact Nat.and_two_pow_sub_one_eq_mod x.toNat 16

theorem toNat_ofBool32 (b : Bool) : (BitVec.setWidth 32 (BitVec.ofBool b)).toNat = if b then 1 else 0 := by
  cases b <;> rfl

/-- The low word assembled from a middle word and a low half. -/
theorem toNat_low (m p : BitVec 32) :
    ((m <<< 16) ||| (p &&& 65535#32)).toNat = (m.toNat % 65536) * 65536 + p.toNat % 65536 := by
  rw [BitVec.toNat_or, toNat_and16, BitVec.toNat_shiftLeft, Nat.shiftLeft_eq]
  rw [show m.toNat * 2 ^ 16 % 2 ^ 32 = 2 ^ 16 * (m.toNat % 65536) by omega]
  rw [← Nat.two_pow_add_eq_or_of_lt (by omega : p.toNat % 65536 < 2 ^ 16)]
  ring

/-- Adding 2^14 to the middle word carries into its upper half exactly when adding 2^30 to the low word wraps. -/
theorem mid_carry (m p : BitVec 32) (hm : m.toNat < 2 ^ 20) :
    (m + 16384#32) >>> 16 = (m >>> 16)
      + BitVec.setWidth 32 (BitVec.ofBool ((((m <<< 16) ||| (p &&& 65535#32)) + 1073741824#32).ult ((m <<< 16) ||| (p &&& 65535#32)))) := by
  apply BitVec.eq_of_toNat_eq
  rw [BitVec.toNat_add, toNat_ofBool32, BitVec.toNat_ushiftRight, BitVec.toNat_ushiftRight, BitVec.toNat_add,
    Nat.shiftRight_eq_div_pow, Nat.shiftRight_eq_div_pow, BitVec.ult, BitVec.toNat_add, toNat_low,
    show (16384#32).toNat = 16384 from rfl, show (1073741824#32).toNat = 1073741824 from rfl]
  simp only [decide_eq_true_eq]
  split <;> omega

/-- The bit below the carry is the low word's top bit once 2^30 is added. -/
theorem mid_bit (m p : BitVec 32) (hm : m.toNat < 2 ^ 20) :
    ((m + 16384#32) >>> 15) &&& 1#32 = (((m <<< 16) ||| (p &&& 65535#32)) + 1073741824#32) >>> 31 := by
  apply BitVec.eq_of_toNat_eq
  rw [BitVec.toNat_and, show (1#32).toNat = 2 ^ 1 - 1 from rfl, Nat.and_two_pow_sub_one_eq_mod,
    BitVec.toNat_ushiftRight, BitVec.toNat_ushiftRight, BitVec.toNat_add,
    Nat.shiftRight_eq_div_pow, Nat.shiftRight_eq_div_pow, BitVec.toNat_add, toNat_low,
    show (16384#32).toNat = 16384 from rfl, show (1073741824#32).toNat = 1073741824 from rfl]
  omega

theorem midW_lt (x y : BitVec 32) : (midW x y).toNat < 2 ^ 20 := by
  unfold midW
  generalize (x &&& 65535#32) * (y &&& 65535#32) = p
  generalize (x &&& 65535#32) * (y >>> 16) = q
  generalize (x >>> 16) * (y &&& 65535#32) = r
  rw [BitVec.toNat_add, BitVec.toNat_add, toNat_and16, toNat_and16, BitVec.toNat_ushiftRight, Nat.shiftRight_eq_div_pow]
  omega

/-- The two multiplies are one function of two words. -/
theorem srdhm_eq (x y : BitVec 32) : srdhmK x y = srdhmR x y := by
  unfold srdhmK srdhmR lowW
  rw [mid_bit (midW x y) ((x &&& 65535#32) * (y &&& 65535#32)) (midW_lt x y),
    mid_carry (midW x y) ((x &&& 65535#32) * (y &&& 65535#32)) (midW_lt x y)]
  congr 2
  abel

/-- The mask of the `e` low bits. -/
def maskW (e : BitVec 32) : BitVec 32 := IntOp.shli .vector 1#32 e - 1#32

/-- The rounding shift right of `h` by `e`, the output zero point added, saturated to a byte. -/
def finishW (h e z : BitVec 32) : BitVec 8 :=
  BitVec.setWidth 8 (IntOp.minsi 255#32 (IntOp.maxsi 0#32
    ((IntOp.shrsi .vector h e
      + BitVec.setWidth 32 (IntOp.cmpi .sgt (h &&& maskW e)
          (IntOp.shrsi .vector (maskW e) 1#32 + BitVec.setWidth 32 (IntOp.cmpi .slt h 0#32)))) + z)))

/-- A byte less 128, written back to a byte and read again as a signed number, is the byte less 128. -/
theorem centre_signed (x : BitVec 8) :
    BitVec.signExtend 32 (BitVec.setWidth 8 (BitVec.setWidth 32 x - 128#32)) = BitVec.setWidth 32 x - 128#32 := by
  revert x; decide

/-- A byte less 128 as an integer. -/
def centre (x : BitVec 8) : Int := (x.toNat : Int) - 128

theorem centre_word (x : BitVec 8) : (BitVec.setWidth 32 x - 128#32).toInt = centre x := by
  revert x; decide

theorem centre_ofInt (x : BitVec 8) : BitVec.setWidth 32 x - 128#32 = BitVec.ofInt 32 (centre x) := by
  rw [← centre_word, BitVec.ofInt_toInt]

theorem centre_bounds (x : BitVec 8) : -128 ≤ centre x ∧ centre x ≤ 127 := by
  unfold centre; have := x.isLt; omega

end Cert.Words
-- ==== Proof.Sums.lean ====
/- Sums of bytes less 128, taken three ways.

   In the ideal reading a float sum of such integers is the integer sum exactly, so converting it back to a 32-bit word gives
   the word of that integer while it stays inside the word; the reference adds words, which wrap: the same word. -/
module

public import proofs.«01_k».proof.Proof.Words
public import Idealize.ShloMosaic.PureOps.Ideal
public import Idealize.ShloMosaic.PureOps.Reduce
public import Mathlib.Data.EReal.Operations
public import Mathlib.Algebra.BigOperators.Fin

@[expose] public section

noncomputable section

namespace Cert.Words

open Idealize.ShloMosaic

/-- A float holding an integer inside the word converts to that integer's word. -/
theorem fptosi_int (n : Int) (h1 : -2 ^ 31 ≤ n) (h2 : n < 2 ^ 31) :
    Ideal.fptosi 32 (((n : ℝ) : EReal)) = BitVec.ofInt 32 n := by
  rw [Ideal.fptosi, Ideal.toIntClamped_coe]
  congr 1
  rw [Int.floor_intCast, Int.ceil_intCast, ite_self]
  norm_num
  omega

/-- A sum of integers read as extended reals is the integer sum read so. -/
theorem coe_sum {ι : Type} (S : Finset ι) (f : ι → Int) :
    ∑ i ∈ S, (((f i : ℝ)) : EReal) = (((∑ i ∈ S, f i : Int) : ℝ) : EReal) := by
  induction S using Finset.cons_induction with
  | empty => simp
  | cons a S ha ih => rw [Finset.sum_cons, Finset.sum_cons, ih, Int.cast_add, EReal.coe_add]

/-- A product of integers read as extended reals is the integer product read so. -/
theorem coe_mul (a b : Int) : (((a : ℝ) : EReal)) * ((b : ℝ) : EReal) = (((a * b : Int) : ℝ) : EReal) := by
  rw [Int.cast_mul, EReal.coe_mul]

/-- A sum of words of integers is the word of the sum. -/
theorem ofInt_sum {ι : Type} (S : Finset ι) (f : ι → Int) :
    ∑ i ∈ S, BitVec.ofInt 32 (f i) = BitVec.ofInt 32 (∑ i ∈ S, f i) := by
  induction S using Finset.cons_induction with
  | empty => simp
  | cons a S ha ih => rw [Finset.sum_cons, Finset.sum_cons, ih, BitVec.ofInt_add]

/-- A fold of words by addition from zero is their sum. -/
theorem fold_addi {ι : Type} (S : Finset ι) (f : ι → BitVec 32) :
    S.fold (IntOp.addi (w := 32)) 0#32 f = ∑ i ∈ S, f i := by
  induction S using Finset.cons_induction with
  | empty => simp
  | cons a S ha ih => rw [Finset.fold_cons, Finset.sum_cons, ih]; rfl

/-- A sum of terms each at most `M` in size is at most their number times `M`. -/
theorem sum_bound {n : Nat} (f : Fin n → Int) (M : Int) (h : ∀ k, -M ≤ f k ∧ f k ≤ M) :
    -(n * M) ≤ ∑ k, f k ∧ ∑ k, f k ≤ n * M := by
  constructor
  · have := Finset.sum_le_sum (s := Finset.univ) fun k (_ : k ∈ Finset.univ) => (h k).1
    simpa using this
  · have := Finset.sum_le_sum (s := Finset.univ) fun k (_ : k ∈ Finset.univ) => (h k).2
    simpa using this

/-- A product of two centred bytes is at most 2^14 in size. -/
theorem centre_mul_bounds (x y : BitVec 8) : -16384 ≤ centre x * centre y ∧ centre x * centre y ≤ 16384 := by
  have hx := centre_bounds x; have hy := centre_bounds y
  constructor <;> nlinarith

/-- A float sum of `n` centred bytes, `n ≤ 4096`, converts to the word of the integer sum. -/
theorem fptosi_sum_centre {n : Nat} (hn : n ≤ 4096) (x : Fin n → BitVec 8) :
    Ideal.fptosi 32 (∑ k, (((centre (x k) : Int) : ℝ) : EReal)) = BitVec.ofInt 32 (∑ k, centre (x k)) := by
  rw [coe_sum]
  have := sum_bound (fun k => centre (x k)) 128 fun k => ⟨(centre_bounds _).1, (centre_bounds _).2.trans (by norm_num)⟩
  exact fptosi_int _ (by omega) (by omega)

/-- A float sum of products of centred bytes converts to the word of the integer sum. -/
theorem fptosi_sum_mul {n : Nat} (hn : n ≤ 4096) (x y : Fin n → BitVec 8) :
    Ideal.fptosi 32 (∑ k, ((((centre (x k) : Int) : ℝ) : EReal) * (((centre (y k) : Int) : ℝ) : EReal)))
      = BitVec.ofInt 32 (∑ k, centre (x k) * centre (y k)) := by
  simp only [coe_mul]
  rw [coe_sum]
  have := sum_bound (fun k => centre (x k) * centre (y k)) 16384 fun k => centre_mul_bounds _ _
  exact fptosi_int _ (by omega) (by omega)

/-- The word of the product of a row and a column of centred bytes. -/
def rawW (f g : Fin 1536 → BitVec 8) : BitVec 32 := BitVec.ofInt 32 (∑ k, centre (f k) * centre (g k))

/-- The word of the sum of a row or column of centred bytes. -/
def sumW (f : Fin 1536 → BitVec 8) : BitVec 32 := BitVec.ofInt 32 (∑ k, centre (f k))

/-- The accumulator of one result: a row and a column of bytes, the two zero points and the bias. -/
def accOf (f g : Fin 1536 → BitVec 8) (wz bs zx : BitVec 32) : BitVec 32 :=
  accW (rawW f g) (sumW f) (sumW g) (128#32 - zx) (128#32 - wz) bs

/-- One result: the accumulator multiplied by `mu`, shifted by `e`, offset by `zo` and saturated. -/
def outW (f g : Fin 1536 → BitVec 8) (wz bs mu e zx zo : BitVec 32) : BitVec 8 :=
  finishW (srdhmR (accOf f g wz bs zx) mu) e zo

/-- The sum over 1536 positions is that over the first 768 and that over the last 768. -/
theorem sum_halves (f : Fin 1536 → Int) :
    ∑ k, f k = (∑ k : Fin 768, f ⟨k.val, by omega⟩) + ∑ k : Fin 768, f ⟨768 + k.val, by omega⟩ := by
  rw [show (∑ k, f k) = ∑ k : Fin (768 + 768), f (Fin.cast rfl k) from rfl, Fin.sum_univ_add]
  rfl

/-- A word of a centred byte read as a float. -/
theorem sitofp_centre (φ : FTy) (x : BitVec 8) :
    FloatOps.sitofp (F := Ideal) φ (IntOp.subi (BitVec.setWidth 32 x) 128#32) = (((centre x : Int) : ℝ) : EReal) := by
  show (((BitVec.setWidth 32 x - 128#32).toInt : ℝ) : EReal) = _
  rw [centre_word]

/-- The kernel's row or column sum. -/
theorem kernel_sum (f : Fin 1536 → BitVec 8) (φ : FTy) :
    FloatOps.fptosi (F := Ideal) (φ := .f32) 32
        (∑ k, FloatOps.sitofp (F := Ideal) φ (IntOp.subi (BitVec.setWidth 32 (f k)) 128#32)) = sumW f := by
  simp only [sitofp_centre]
  exact fptosi_sum_centre (by norm_num) f

/-- The kernel's product: two halves, each converted to words, added as words. -/
theorem kernel_raw (f g : Fin 1536 → BitVec 8) (φ : FTy) (h1 : ∀ k : Fin 768, k.val < 1536) (h2 : ∀ k : Fin 768, 768 + k.val < 1536) :
    IntOp.addi
        (FloatOps.fptosi (F := Ideal) (φ := .f32) 32
          (∑ k : Fin 768, (FloatOps.sitofp (F := Ideal) φ (IntOp.subi (BitVec.setWidth 32 (f ⟨k.val, h1 k⟩)) 128#32) : EReal)
            * FloatOps.sitofp (F := Ideal) φ (IntOp.subi (BitVec.setWidth 32 (g ⟨k.val, h1 k⟩)) 128#32)))
        (FloatOps.fptosi (F := Ideal) (φ := .f32) 32
          (∑ k : Fin 768, (FloatOps.sitofp (F := Ideal) φ (IntOp.subi (BitVec.setWidth 32 (f ⟨768 + k.val, h2 k⟩)) 128#32) : EReal)
            * FloatOps.sitofp (F := Ideal) φ (IntOp.subi (BitVec.setWidth 32 (g ⟨768 + k.val, h2 k⟩)) 128#32)))
      = rawW f g := by
  simp only [sitofp_centre]
  refine (congrArg₂ IntOp.addi (fptosi_sum_mul (by norm_num) (fun k : Fin 768 => f ⟨k.val, h1 k⟩) fun k => g ⟨k.val, h1 k⟩)
    (fptosi_sum_mul (by norm_num) (fun k : Fin 768 => f ⟨768 + k.val, h2 k⟩) fun k => g ⟨768 + k.val, h2 k⟩)).trans ?_
  unfold rawW
  rw [sum_halves fun k => centre (f k) * centre (g k), BitVec.ofInt_add]
  rfl

/-- The reference's row or column sum: the bytes written back as signed bytes, added as words. -/
theorem ref_sum (f : Fin 1536 → BitVec 8) :
    (Finset.univ : Finset (Fin 1536)).fold (IntOp.addi (w := 32)) 0#32 (fun k =>
      BitVec.signExtend 32 (BitVec.setWidth 8 (IntOp.subi (BitVec.setWidth 32 (f k)) 128#32))) = sumW f := by
  rw [fold_addi]
  unfold sumW
  rw [← ofInt_sum]
  refine Finset.sum_congr rfl fun k _ => ?_
  exact (centre_signed (f k)).trans (centre_ofInt (f k))

/-- The reference's product: the signed bytes multiplied and added as words. -/
theorem ref_raw (f g : Fin 1536 → BitVec 8) :
    (Finset.univ : Finset (Fin 1536)).fold (IntOp.addi (w := 32)) 0#32 (fun k =>
      IntOp.muli (BitVec.signExtend 32 (BitVec.setWidth 8 (IntOp.subi (BitVec.setWidth 32 (f k)) 128#32)))
        (BitVec.signExtend 32 (BitVec.setWidth 8 (IntOp.subi (BitVec.setWidth 32 (g k)) 128#32)))) = rawW f g := by
  rw [fold_addi]
  unfold rawW
  rw [← ofInt_sum]
  refine Finset.sum_congr rfl fun k _ => ?_
  rw [BitVec.ofInt_mul]
  exact congrArg₂ (· * ·) ((centre_signed (f k)).trans (centre_ofInt (f k))) ((centre_signed (g k)).trans (centre_ofInt (g k)))

end Cert.Words

end
-- ==== Proof.Chunk.lean ====
/- What one chunk of 256 columns computes, element by element, in the ideal reading. -/
module

public import proofs.«01_k».proof.Proof.Pieces
public import proofs.«01_k».proof.Proof.Sums
public import Idealize.ShloMosaic.Lib.Pointwise
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Words

/-- The rows' sums. -/
theorem pay3_at (x : Vec Ideal S512x1536 .i8) (r : Fin 512) :
    k0_pay3 (F := Ideal) x (ix2 r 0) = sumW fun k => x (ix2 r k) := by
  pointwise [k0_pay3, k0_pay2]
  exact kernel_sum _ _

/-- The columns' sums. -/
theorem pay6_at (w : Vec Ideal S1536x256 .i8) (l : Fin 256) :
    k0_pay6 (F := Ideal) w (ix2 0 l) = sumW fun k => w (ix2 k l) := by
  pointwise [k0_pay6, k0_pay4]
  exact kernel_sum _ _

/-- The product of the centred bytes. -/
theorem pay5_at (x : Vec Ideal S512x1536 .i8) (w : Vec Ideal S1536x256 .i8) (r : Fin 512) (l : Fin 256) :
    k0_pay5 (F := Ideal) x w (ix2 r l) = rawW (fun k => x (ix2 r k)) fun k => w (ix2 k l) := by
  pointwise [k0_pay5, k0_pay4, k0_pay2]
  exact kernel_raw (fun k => x (ix2 r k)) (fun k => w (ix2 k l)) .bf16 (fun k => by omega) (fun k => by omega)

/-- The accumulator. -/
theorem pay11_at (v9 : IVec S512x1 32) (v11 : BitVec 32) (v26 : IVec S512x256 32) (v30 v34 v36 : IVec S1x256 32)
    (r : Fin 512) (l : Fin 256) :
    k0_pay11 v9 v11 v26 v30 v34 v36 (ix2 r l)
      = accW (v26 (ix2 r l)) (v9 (ix2 r 0)) (v30 (ix2 0 l)) v11 (v34 (ix2 0 l)) (v36 (ix2 0 l)) := by
  pointwise [k0_pay11]
  rfl

/-- The middle partial product with the rounding constant. -/
theorem pay18_at (v9 : IVec S512x1 32) (v11 : BitVec 32) (v26 : IVec S512x256 32) (v30 v34 v36 : IVec S1x256 32)
    (v37 : Vec Ideal S1x256 .i32) (r : Fin 512) (l : Fin 256) :
    k0_pay18 (F := Ideal) v9 v11 v26 v30 v34 v36 v37 (ix2 r l)
      = midW (k0_pay11 v9 v11 v26 v30 v34 v36 (ix2 r l)) (v37 (ix2 0 l)) + 16384#32 := by
  unfold k0_pay18 k0_pay16 k0_pay17 k0_pay12 k0_pay13 k0_pay14 k0_pay15
  generalize k0_pay11 v9 v11 v26 v30 v34 v36 = acc
  pointwise [k0_pay9]
  rfl

/-- The high partial products. -/
theorem pay19_at (v9 : IVec S512x1 32) (v11 : BitVec 32) (v26 : IVec S512x256 32) (v30 v34 v36 : IVec S1x256 32)
    (v37 : Vec Ideal S1x256 .i32) (r : Fin 512) (l : Fin 256) :
    k0_pay19 (F := Ideal) v9 v11 v26 v30 v34 v36 v37 (ix2 r l)
      = highW (k0_pay11 v9 v11 v26 v30 v34 v36 (ix2 r l)) (v37 (ix2 0 l)) := by
  unfold k0_pay19 k0_pay16 k0_pay17 k0_pay12 k0_pay13 k0_pay14 k0_pay15
  generalize k0_pay11 v9 v11 v26 v30 v34 v36 = acc
  pointwise [k0_pay9]
  rfl

/-- The rest, from the accumulator and the partial products. -/
theorem pay20_at (zo : Elt Ideal .i32) (v38 v40 : IVec S1x256 32) (v52 v78 v84 : IVec S512x256 32) (r : Fin 512) (l : Fin 256) :
    k0_pay20 (F := Ideal) zo v38 v40 v52 v78 v84 (ix2 r l)
      = finishW ((((v84 (ix2 r l) + (v78 (ix2 r l) >>> 16)) - signW (v52 (ix2 r l)) (v38 (ix2 0 l))) <<< 1)
          ||| ((v78 (ix2 r l) >>> 15) &&& 1#32)) (v40 (ix2 0 l)) zo := by
  pointwise [k0_pay20]
  rw [select_sign]
  rfl

/-- One chunk, element by element. -/
theorem chunk_at (x : Vec Ideal S512x1536 .i8) (w : Vec Ideal S1536x256 .i8) (wz bs mu e : Vec Ideal S1x256 .i32)
    (zx zo : Elt Ideal .i32) (r : Fin 512) (l : Fin 256) :
    chunk (F := Ideal) x w wz bs mu e zx zo (ix2 r l)
      = outW (fun k => x (ix2 r k)) (fun k => w (ix2 k l)) (wz (ix2 0 l)) (bs (ix2 0 l)) (mu (ix2 0 l)) (e (ix2 0 l)) zx zo := by
  unfold chunk outW
  rw [pay20_at, pay18_at, pay19_at, pay11_at, pay5_at, pay3_at, pay6_at, ← srdhm_eq]
  have h7 : k0_pay7 (F := Ideal) wz (ix2 0 l) = 128#32 - wz (ix2 0 l) := by pointwise [k0_pay7]; rfl
  have h8 : k0_pay8 (F := Ideal) bs (ix2 0 l) = bs (ix2 0 l) := by pointwise [k0_pay8]
  have h9 : k0_pay9 (F := Ideal) mu (ix2 0 l) = mu (ix2 0 l) := by pointwise [k0_pay9]
  have h10 : k0_pay10 (F := Ideal) e (ix2 0 l) = e (ix2 0 l) := by pointwise [k0_pay10]
  rw [h7, h8, h9, h10]
  rfl

end Cert.KernelIdeal.Hand

end
-- ==== Proof.Block.lean ====
/- What one grid point leaves in its block of the result, element by element. -/
module

public import proofs.«01_k».proof.Proof.Chunk

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Words

/-- The block a point leaves, at an index: row `r` of its row block against column `l` of its column block. -/
def blockOut (x0 : Vec Ideal S2 .i32) (x1 : Vec Ideal S512x1536 .i8) (x2 : Vec Ideal S1536x1280 .i8)
    (x3 : Vec Ideal S4x1280 .i32) (y : S512x1280.Idx) : BitVec 8 :=
  outW (fun k => x1 (ix2 (y 0) k)) (fun k => x2 (ix2 k (y 1))) (x3 (ix2 0 (y 1))) (x3 (ix2 1 (y 1))) (x3 (ix2 2 (y 1)))
    (x3 (ix2 3 (y 1))) (x0 (ix1 0)) (x0 (ix1 1))

theorem chunkAt_at (x0 : Vec Ideal S2 .i32) (x1 : Vec Ideal S512x1536 .i8) (x2 : Vec Ideal S1536x1280 .i8)
    (x3 : Vec Ideal S4x1280 .i32) (o : Nat) (hw h0 h1 h2 h3)
    (hb : ∀ a, (![0, o] : Fin 2 → Nat) a + S512x256.size a ≤ S512x1280.size a) (x : S512x256.Idx) :
    chunkAt (F := Ideal) x0 x1 x2 x3 o hw h0 h1 h2 h3 x
      = blockOut x0 x1 x2 x3 ((Rect.unit (s := S512x1280) ![0, o] S512x256.size hb).emb x) := by
  obtain ⟨r, l, rfl⟩ : ∃ (r : Fin 512) (l : Fin 256), x = ix2 r l := ⟨x 0, x 1, by idx_ext⟩
  unfold chunkAt
  rw [chunk_at]
  unfold blockOut
  congr 1
  · funext k
    exact congrArg x1 (by idx_ext)
  · funext k
    exact congrArg x2 (by idx_ext)
  · exact congrArg x3 (by idx_ext)
  · exact congrArg x3 (by idx_ext)
  · exact congrArg x3 (by idx_ext)
  · exact congrArg x3 (by idx_ext)
  · exact congrArg x0 (by idx_ext)
  · exact congrArg x0 (by idx_ext)

/-- The block a point leaves. -/
theorem out_eq (c : Dev nD) (i : grid0.Coords) (arg2 : Memref sig .tc .smem S2 .i32) (harg2 : arg2.IsWhole) (arg3 : Memref sig .tc .vmem S512x1536 .i8) (harg3 : arg3.IsWhole) (arg4 : Memref sig .tc .vmem S1536x1280 .i8) (harg4 : arg4.IsWhole) (arg5 : Memref sig .tc .vmem S4x1280 .i32) (harg5 : arg5.IsWhole) (arg6 : Memref sig .tc .vmem S512x1280 .i8) (harg6 : arg6.IsWhole)
    (x0 : Vec Ideal S2 .i32) (x1 : Vec Ideal S512x1536 .i8) (x2 : Vec Ideal S1536x1280 .i8) (x3 : Vec Ideal S4x1280 .i32) :
    out0_A_4 (F := Ideal) c i arg2 harg2 arg3 harg3 arg4 harg4 arg5 harg5 arg6 harg6 x0 x1 x2 x3 = blockOut x0 x1 x2 x3 := by
  rw [out_pieces]
  funext y
  refine View.canon_apply_of_pieces (Val := Elt Ideal) (S := S512x1280) (e := .i8) (blockOut x0 x1 x2 x3) _ ?_ y
    (View.cover_of_tiledL (s := S512x1280) _ S512x256.size (by sl_kernel_rfl) y)
  intro p hp x
  simp only [List.mem_cons, List.not_mem_nil, or_false] at hp
  rcases hp with rfl | rfl | rfl | rfl | rfl
  · exact chunkAt_at x0 x1 x2 x3 1024 _ _ _ _ _ inb_S512x1280_S512x256_0_1024 x
  · exact chunkAt_at x0 x1 x2 x3 768 _ _ _ _ _ inb_S512x1280_S512x256_0_768 x
  · exact chunkAt_at x0 x1 x2 x3 512 _ _ _ _ _ inb_S512x1280_S512x256_0_512 x
  · exact chunkAt_at x0 x1 x2 x3 256 _ _ _ _ _ inb_S512x1280_S512x256_0_256 x
  · exact chunkAt_at x0 x1 x2 x3 0 _ _ _ _ _ inb_S512x1280_S512x256_0_0 x

end Cert.KernelIdeal.Hand

end
-- ==== Proof.Result.lean ====
/-
  The result both programs are shown to compute, entry by entry: at (p, q, n) it is the requantized word of activation
  row (p, q) and weight column n.
-/
module

public import proofs.«01_k».proof.Proof.Sums
public import Idealize.ShloMosaic.Lib.Pointwise

@[expose] public section

noncomputable section

namespace Cert.Words

open Idealize.ShloMosaic

/-- The result array. `x` the activations, `w` the weights, `wz`, `bs`, `mu`, `e` a column's zero point, bias,
    multiplier and shift, `zx` and `zo` the zero points of the activations and of the result. -/
def result (x : (⟨3, ![12, 1024, 1536]⟩ : Shape).Idx → BitVec 8) (zx : (⟨0, ![]⟩ : Shape).Idx → BitVec 32)
    (w : (⟨2, ![1536, 8960]⟩ : Shape).Idx → BitVec 8) (wz bs mu e : (⟨1, ![8960]⟩ : Shape).Idx → BitVec 32)
    (zo : (⟨0, ![]⟩ : Shape).Idx → BitVec 32) : (⟨3, ![12, 1024, 8960]⟩ : Shape).Idx → BitVec 8 := fun i =>
  outW (fun k => x (ix3 (i 0) (i 1) k)) (fun k => w (ix2 k (i 2))) (wz (ix1 (i 2))) (bs (ix1 (i 2))) (mu (ix1 (i 2)))
    (e (ix1 (i 2))) (zx ix0) (zo ix0)

end Cert.Words

end
-- ==== Proof.Array.lean ====
/-
  What the kernel's result array holds after the run, entry by entry: every entry is the one requantized word that its
  activation row, its weight column and its column's parameters determine.
-/
module

public import proofs.«01_k».proof.Proof.Block
public import proofs.«01_k».proof.Proof.Result
public import Idealize.ShloMosaic.Lib.Pipeline.ValueKit
public import Idealize.ShloMosaic.Lib.StableHlo.ReadAt

@[expose] public section

noncomputable section

namespace Cert.KernelIdeal.Hand

open Idealize.ShloMosaic Idealize.ShloMosaic.TcCoe
open Idealize.SL Idealize.SL.Sem
open Cert.KernelIdeal Cert.KernelIdeal.Gen Cert.Words
open Idealize.ShloMosaic.Pipeline (Dat)

variable (m : (ℓ : Loc nD τ sig) → Buf (Elt Ideal) ℓ)

/-- Which blocks a grid point works on: its column block is the quotient by 24 of its number, its row block the remainder. -/
theorem index_at (t : Fin cfg0.N) :
    win0_0.index t = ![0] ∧ win0_1.index t = ![t.val % 24, 0] ∧ win0_2.index t = ![0, t.val / 24]
      ∧ win0_3.index t = ![0, t.val / 24] ∧ win0_4.index t = ![t.val % 24, t.val / 24] :=
  (by decide +kernel : ∀ t : Fin grid0.N, win0_0.index t = ![0] ∧ win0_1.index t = ![t.val % 24, 0] ∧ win0_2.index t = ![0, t.val / 24]
      ∧ win0_3.index t = ![0, t.val / 24] ∧ win0_4.index t = ![t.val % 24, t.val / 24]) t

/-- The activations as the kernel sees them: the three-axis array with its first two axes joined. -/
theorem rows_at (c : Dev nD) (R : Fin 12288) (k : Fin 1536) :
    V m c main_v8 (ix2 R k)
      = m ((c : Thread nD τ).loc main_arg0) (ix3 (⟨R.val / 1024, by omega⟩ : Fin 12) (⟨R.val % 1024, by omega⟩ : Fin 1024) k) := by
  unfold V
  after_reads_at

/-- The two zero points. -/
theorem points_at0 (c : Dev nD) : V m c main_v2 (ix1 0) = m ((c : Thread nD τ).loc main_arg1) ix0 := by
  unfold V
  after_reads_at
theorem points_at1 (c : Dev nD) : V m c main_v2 (ix1 1) = m ((c : Thread nD τ).loc main_arg7) ix0 := by
  unfold V
  after_reads_at

/-- The four rows of column parameters. -/
theorem cols_at0 (c : Dev nD) (n : Fin 8960) : V m c main_v7 (ix2 0 n) = m ((c : Thread nD τ).loc main_arg3) (ix1 n) := by
  unfold V
  after_reads_at
  after_reads_at
theorem cols_at1 (c : Dev nD) (n : Fin 8960) : V m c main_v7 (ix2 1 n) = m ((c : Thread nD τ).loc main_arg4) (ix1 n) := by
  unfold V
  after_reads_at
  after_reads_at
theorem cols_at2 (c : Dev nD) (n : Fin 8960) : V m c main_v7 (ix2 2 n) = m ((c : Thread nD τ).loc main_arg5) (ix1 n) := by
  unfold V
  after_reads_at
  after_reads_at
theorem cols_at3 (c : Dev nD) (n : Fin 8960) : V m c main_v7 (ix2 3 n) = m ((c : Thread nD τ).loc main_arg6) (ix1 n) := by
  unfold V
  after_reads_at
  after_reads_at

/-- The result array with its first two axes joined: the word of row `R` and column `n`. -/
def joined (c : Dev nD) : S12288x8960.Idx → BitVec 8 := fun i =>
  outW (fun k => V m c main_v8 (ix2 (i 0) k)) (fun k => V m c main_arg2 (ix2 k (i 1)))
    (V m c main_v7 (ix2 0 (i 1))) (V m c main_v7 (ix2 1 (i 1))) (V m c main_v7 (ix2 2 (i 1))) (V m c main_v7 (ix2 3 (i 1)))
    (V m c main_v2 (ix1 0)) (V m c main_v2 (ix1 1))

/-- Equal rows, columns and parameters have equal words. -/
theorem outW_congr {f f' g g' : Fin 1536 → BitVec 8} {wz wz' bs bs' mu mu' e e' zx zx' zo zo' : BitVec 32}
    (hf : ∀ k, f k = f' k) (hg : ∀ k, g k = g' k) (h1 : wz = wz') (h2 : bs = bs') (h3 : mu = mu') (h4 : e = e')
    (h5 : zx = zx') (h6 : zo = zo') : outW f g wz bs mu e zx zo = outW f' g' wz' bs' mu' e' zx' zo' := by
  obtain rfl := funext hf
  obtain rfl := funext hg
  subst h1 h2 h3 h4 h5 h6
  rfl

/-- What a grid point writes back is its block of that array. -/
theorem block_at (c : Dev nD) (t : Fin cfg0.N) (y : S512x1280.Idx) :
    (dats (F := Ideal) m 0 c).after 4 t y = joined m c (((cfg0.win 4).blk t).view.emb y) := by
  obtain ⟨e0, e1, e2, e3, e4⟩ := index_at t
  rw [after0_4]
  unfold outsAt0
  rw [out_eq]
  unfold blockOut joined
  refine outW_congr (fun k => ?_) (fun k => ?_) ?_ ?_ ?_ ?_ ?_ ?_
  · blk_ext [iblk, e1, e4]
  · blk_ext [iblk, e2, e4]
  · blk_ext [iblk, e3, e4]
  · blk_ext [iblk, e3, e4]
  · blk_ext [iblk, e3, e4]
  · blk_ext [iblk, e3, e4]
  · blk_ext [iblk, e0, e4]
  · blk_ext [iblk, e0, e4]

/-- So that array is what the run leaves: the blocks cover it. -/
theorem joined_eq (c : Dev nD) : (dats (F := Ideal) m 0 c).arrAt 4 (cfgs 0).N = joined m c := by
  refine (dats (F := Ideal) m 0 c).arrAt_eq_of_covers 4 _ (by decide +kernel) fun t hf y => ?_
  blk_simp
  exact block_at m c t _

/-- The result array, its first two axes parted again. -/
theorem result_eq (c : Dev nD) :
    Pipeline.afterTail₀ cfgs (dats (F := Ideal) m) 0 (V0 m) [hostOps1] c main_v10
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨p, q, n, rfl⟩ : ∃ (p : Fin 12) (q : Fin 1024) (n : Fin 8960), i = ix3 p q n := ⟨i 0, i 1, i 2, by idx_ext⟩
  unfold Pipeline.afterTail₀
  after_reads_at
  refine (congrFun ((Pipeline.withArrays_arr (cfgs 0).spec (by decide : Function.Injective (Pipeline.arrRef spec0)) c (V0 m c) _ 4).trans
    (joined_eq m c)) _).trans ?_
  refine outW_congr (fun k => ?_) (fun k => congrFun (V_main_arg2 m c) _) (cols_at0 m c n) (cols_at1 m c n) (cols_at2 m c n)
    (cols_at3 m c n) (points_at0 m c) (points_at1 m c)
  refine (rows_at m c _ k).trans (congrArg (m ((c : Thread nD τ).loc main_arg0)) ?_)
  idx_ext

/-- The kernel's run: its result array holds `result` of its arguments, which end unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v10) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨((h.1 c).2 main_v10 (Pipeline.mem_restRefs_of main_v10 (by decide) (by decide))).trans (result_eq m c), h.2 c⟩)
    (θ_run_and (run_main m ρ) (unchanged m ρ))

end Cert.KernelIdeal.Hand

end
-- ==== Proof.Ref.lean ====
/-
  What the reference computes, entry by entry.
-/
module

public import proofs.«01_k».proof.Proof.Result
public import proofs.«01_k».proof.Proof.Gen.ReferenceIdeal.Run
public import Idealize.ShloMosaic.Lib.Pointwise
public import Idealize.ShloMosaic.Lib.Quiescent
public import Idealize.ShloMosaic.Lib.Tactic.CleanTypes

@[expose] public section

set_option maxRecDepth 16384

noncomputable section

namespace Cert.ReferenceIdeal.Hand

open Idealize.ShloMosaic Idealize.ShloMosaic.TcCoe
open Idealize.SL Idealize.SL.Sem
open Cert.ReferenceIdeal Cert.ReferenceIdeal.Gen Cert.ReferenceIdeal.Value Cert.Words

variable (V0 : Valuation τ sig (Elt Ideal))

/-- The accumulator at (p, q, n). -/
theorem acc_at (p : Fin 12) (q : Fin 1024) (n : Fin 8960) :
    res_main_v37 V0 (ix3 p q n)
      = accOf (fun k => V0 (Proc.devRef .tc main_arg0) (ix3 p q k)) (fun k => V0 (Proc.devRef .tc main_arg2) (ix2 k n))
          (V0 (Proc.devRef .tc main_arg3) (ix1 n)) (V0 (Proc.devRef .tc main_arg4) (ix1 n)) (V0 (Proc.devRef .tc main_arg1) ix0) := by
  unfold res_main_v37
  clean_types
  pointwise [res_main_v22, res_main_v3, res_main_v7]
  rw [ref_raw, ref_sum, ref_sum]
  rfl

/-- The rounded high half of the doubled product, at (p, q, n). -/
theorem high_at (p : Fin 12) (q : Fin 1024) (n : Fin 8960) :
    res_main_v96 V0 (ix3 p q n) = srdhmR (res_main_v37 V0 (ix3 p q n)) (V0 (Proc.devRef .tc main_arg5) (ix1 n)) := by
  unfold res_main_v96 res_main_v87 res_main_v72 res_main_v67 res_main_v56 res_main_v53 res_main_v50 res_main_v47 res_main_v45
    res_main_v43 res_main_v41 res_main_v39 res_main_v38
  simp only [id_eq]
  clean_types
  pointwise
  rw [select_sign]
  rfl

/-- The remainder's mask of column n. -/
theorem mask_at (n : Fin 8960) : res_main_v100 V0 (ix1 n) = maskW (V0 (Proc.devRef .tc main_arg6) (ix1 n)) := by
  unfold res_main_v100
  clean_types
  pointwise
  rfl

/-- The reference's result, as its run leaves it. -/
theorem result_eq :
    (trunci 8 (minsi (broadcastInDim S12x1024x8960 ![] bcast_S_S12x1024x8960 (id (constantI S_ 32 255#32))) (maxsi (broadcastInDim S12x1024x8960 ![] bcast_S_S12x1024x8960 (id (constantI S_ 32 0#32))) (addi (addi (Host.shrsi (res_main_v96 V0) (broadcastInDim S12x1024x8960 ![0, 1, 2] bcast_S1x1x8960_S12x1024x8960_0_1_2 (broadcastInDim S1x1x8960 ![2] bcast_S8960_S1x1x8960_2 (V0 (Proc.devRef .tc main_arg6))))) (extui 32 (cmpi .sgt (andi (res_main_v96 V0) (broadcastInDim S12x1024x8960 ![0, 1, 2] bcast_S1x1x8960_S12x1024x8960_0_1_2 (broadcastInDim S1x1x8960 ![2] bcast_S8960_S1x1x8960_2 (res_main_v100 V0)))) (addi (broadcastInDim S12x1024x8960 ![0, 1, 2] bcast_S1x1x8960_S12x1024x8960_0_1_2 (broadcastInDim S1x1x8960 ![2] bcast_S8960_S1x1x8960_2 (Host.shrsi (res_main_v100 V0) (broadcastInDim S8960 ![] bcast_S_S8960 (constantI S_ 32 1#32))))) (extui 32 (cmpi .slt (res_main_v96 V0) (broadcastInDim S12x1024x8960 ![] bcast_S_S12x1024x8960 (constantI S_ 32 0#32))) natLt_1_32))) natLt_1_32)) (broadcastInDim S12x1024x8960 ![] bcast_S_S12x1024x8960 (V0 (Proc.devRef .tc main_arg7)))))) natLt_8_32 : Vec Ideal S12x1024x8960 .i8)
      = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  funext i
  obtain ⟨p, q, n, rfl⟩ : ∃ (p : Fin 12) (q : Fin 1024) (n : Fin 8960), i = ix3 p q n := ⟨i 0, i 1, i 2, by idx_ext⟩
  show _ = outW (fun k => V0 (Proc.devRef .tc main_arg0) (ix3 p q k)) (fun k => V0 (Proc.devRef .tc main_arg2) (ix2 k n))
          (V0 (Proc.devRef .tc main_arg3) (ix1 n)) (V0 (Proc.devRef .tc main_arg4) (ix1 n)) (V0 (Proc.devRef .tc main_arg5) (ix1 n))
          (V0 (Proc.devRef .tc main_arg6) (ix1 n)) (V0 (Proc.devRef .tc main_arg1) ix0) (V0 (Proc.devRef .tc main_arg7) ix0)
  unfold outW
  rw [← acc_at, ← high_at]
  unfold finishW
  rw [← mask_at]
  simp only [id_eq]
  clean_types
  pointwise
  rfl

/-- The reference's run: its result array holds `result` of its arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v121) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (result_eq (StableHlo.launchContents m c)), (h c).2⟩) (Value.run m ρ)

/-- Its frame: the arguments end unchanged, and it has no semaphore. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run defs _ _).mono (fun r h => ⟨fun c => (h c).2, sem_eq_zero_of_no_sems (by decide) r.2⟩) (run m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.Ref
public import Idealize.ShloMosaic.Adequacy
public import Idealize.ShloMosaic.Init

@[expose] public section

noncomputable section

namespace Cert.Proof

open Idealize.ShloMosaic Idealize.SL.Sem Cert.Kernel

/-- From memories that agree on the arguments, the kernel and the reference end with the same result. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.Words.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Hand.run m g, (θ_run Cert.ReferenceIdeal.defs _ _).mono (fun r h c => ⟨(h c).1.trans ?_, (h c).2⟩)
      (Cert.ReferenceIdeal.Hand.run m' g')⟩
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Hand.frame m ρ, trivial, algebraic⟩

end Cert.Proof

end
